-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x20480x2 : Shape := ⟨4, ![8, 128, 20480, 2]⟩
abbrev S80x256 : Shape := ⟨2, ![80, 256]⟩
abbrev S80 : Shape := ⟨1, ![80]⟩
abbrev S10x8 : Shape := ⟨2, ![10, 8]⟩
abbrev S10 : Shape := ⟨1, ![10]⟩
abbrev S1 : Shape := ⟨1, ![1]⟩
abbrev S8x128x160x128x2 : Shape := ⟨5, ![8, 128, 160, 128, 2]⟩
abbrev S8x128x160x2x128 : Shape := ⟨5, ![8, 128, 160, 2, 128]⟩
abbrev S8x128x320x128 : Shape := ⟨4, ![8, 128, 320, 128]⟩
abbrev S80x2x128 : Shape := ⟨3, ![80, 2, 128]⟩
abbrev S80x2x2x128 : Shape := ⟨4, ![80, 2, 2, 128]⟩
abbrev S80x4x128 : Shape := ⟨3, ![80, 4, 128]⟩
abbrev S320x128 : Shape := ⟨2, ![320, 128]⟩
abbrev S320 : Shape := ⟨1, ![320]⟩
abbrev S320x1 : Shape := ⟨2, ![320, 1]⟩
abbrev S1x80 : Shape := ⟨2, ![1, 80]⟩
abbrev S_ : Shape := ⟨0, ![]⟩
abbrev S320x80 : Shape := ⟨2, ![320, 80]⟩
abbrev S80x1 : Shape := ⟨2, ![80, 1]⟩
abbrev S1x10 : Shape := ⟨2, ![1, 10]⟩
abbrev S80x10 : Shape := ⟨2, ![80, 10]⟩
abbrev S8x128x1 : Shape := ⟨3, ![8, 128, 1]⟩
abbrev S8x1x128 : Shape := ⟨3, ![8, 1, 128]⟩
abbrev S8x128 : Shape := ⟨2, ![8, 128]⟩
abbrev S8x1x1 : Shape := ⟨3, ![8, 1, 1]⟩
abbrev S8 : Shape := ⟨1, ![8]⟩
abbrev S1x128x320x128 : Shape := ⟨4, ![1, 128, 320, 128]⟩
abbrev S1x128x1 : Shape := ⟨3, ![1, 128, 1]⟩
abbrev S1x1x128 : Shape := ⟨3, ![1, 1, 128]⟩
abbrev S128x320x128 : Shape := ⟨3, ![128, 320, 128]⟩
abbrev S1x320x128 : Shape := ⟨3, ![1, 320, 128]⟩
abbrev S128x320 : Shape := ⟨2, ![128, 320]⟩
abbrev S128x80 : Shape := ⟨2, ![128, 80]⟩
abbrev S128x10 : Shape := ⟨2, ![128, 10]⟩
abbrev S128 : Shape := ⟨1, ![128]⟩
abbrev S128x1 : Shape := ⟨2, ![128, 1]⟩
abbrev S1x128x10 : Shape := ⟨3, ![1, 128, 10]⟩
abbrev S1x1x1 : Shape := ⟨3, ![1, 1, 1]⟩

abbrev nBuf : Space → Nat
  | .hbm => 162
  | .vmem => 14
  | .smem => 3
  | _ => 0

abbrev hbmTy0_0 (i : Nat) : BufTy := match i % 128 with
  | 0 => ⟨S8x128x20480x2, .f32⟩
  | 1 => ⟨S80x256, .f32⟩
  | 2 => ⟨S80, .f32⟩
  | 3 => ⟨S10x8, .f32⟩
  | 4 => ⟨S10, .f32⟩
  | 5 => ⟨S10, .f32⟩
  | 6 => ⟨S1, .f32⟩
  | 7 => ⟨S10, .f32⟩
  | 8 => ⟨S1, .f32⟩
  | 9 => ⟨S8x128x160x128x2, .f32⟩
  | 10 => ⟨S8x128x160x2x128, .f32⟩
  | 11 => ⟨S8x128x320x128, .f32⟩
  | 12 => ⟨S80x2x128, .f32⟩
  | 13 => ⟨S80x2x2x128, .f32⟩
  | 14 => ⟨S80x4x128, .f32⟩
  | 15 => ⟨S320x128, .f32⟩
  | 16 => ⟨S320, .i32⟩
  | 17 => ⟨S320x1, .i32⟩
  | 18 => ⟨S80, .i32⟩
  | 19 => ⟨S1x80, .i32⟩
  | 20 => ⟨S_, .i32⟩
  | 21 => ⟨S_, .i32⟩
  | 22 => ⟨S320x1, .i32⟩
  | 23 => ⟨S320x1, .i32⟩
  | 24 => ⟨S320x1, .i32⟩
  | 25 => ⟨S_, .i32⟩
  | 26 => ⟨S320x1, .i32⟩
  | 27 => ⟨S320x1, .i1⟩
  | 28 => ⟨S320x1, .i32⟩
  | 29 => ⟨S320x1, .i32⟩
  | 30 => ⟨S_, .i32⟩
  | 31 => ⟨S320x1, .i32⟩
  | 32 => ⟨S320x1, .i1⟩
  | 33 => ⟨S320x1, .i1⟩
  | 34 => ⟨S_, .i32⟩
  | 35 => ⟨S320x1, .i32⟩
  | 36 => ⟨S320x1, .i32⟩
  | 37 => ⟨S320x1, .i32⟩
  | 38 => ⟨S320x80, .i32⟩
  | 39 => ⟨S320x80, .i32⟩
  | 40 => ⟨S320x80, .i1⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S320x1, .i32⟩
  | 48 => ⟨S320x1, .i32⟩
  | 49 => ⟨S_, .i32⟩
  | 50 => ⟨S320x1, .i32⟩
  | 51 => ⟨S320x1, .i1⟩
  | 52 => ⟨S_, .i32⟩
  | 53 => ⟨S320x1, .i32⟩
  | 54 => ⟨S320x1, .i1⟩
  | 55 => ⟨S_, .i32⟩
  | 56 => ⟨S_, .i1⟩
  | 57 => ⟨S320x1, .i1⟩
  | 58 => ⟨S320x1, .i1⟩
  | 59 => ⟨S320x1, .i1⟩
  | 60 => ⟨S320x1, .i32⟩
  | 61 => ⟨S320x1, .i32⟩
  | 62 => ⟨S320x1, .i32⟩
  | 63 => ⟨S_, .i32⟩
  | 64 => ⟨S320x1, .i32⟩
  | 65 => ⟨S320x1, .i1⟩
  | 66 => ⟨S320x80, .i1⟩
  | 67 => ⟨S320x80, .i1⟩
  | 68 => ⟨S320x80, .f32⟩
  | 69 => ⟨S_, .i32⟩
  | 70 => ⟨S_, .i32⟩
  | 71 => ⟨S320x1, .i32⟩
  | 72 => ⟨S320x1, .i32⟩
  | 73 => ⟨S320x1, .i32⟩
  | 74 => ⟨S_, .i32⟩
  | 75 => ⟨S320x1, .i32⟩
  | 76 => ⟨S320x1, .i1⟩
  | 77 => ⟨S320x1, .i32⟩
  | 78 => ⟨S320x1, .i32⟩
  | 79 => ⟨S_, .i32⟩
  | 80 => ⟨S320x1, .i32⟩
  | 81 => ⟨S320x1, .i1⟩
  | 82 => ⟨S320x1, .i1⟩
  | 83 => ⟨S_, .i32⟩
  | 84 => ⟨S320x1, .i32⟩
  | 85 => ⟨S320x1, .i32⟩
  | 86 => ⟨S320x1, .i32⟩
  | 87 => ⟨S320x80, .i32⟩
  | 88 => ⟨S320x80, .i32⟩
  | 89 => ⟨S320x80, .i1⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S320x1, .i32⟩
  | 97 => ⟨S320x1, .i32⟩
  | 98 => ⟨S_, .i32⟩
  | 99 => ⟨S320x1, .i32⟩
  | 100 => ⟨S320x1, .i1⟩
  | 101 => ⟨S_, .i32⟩
  | 102 => ⟨S320x1, .i32⟩
  | 103 => ⟨S320x1, .i1⟩
  | 104 => ⟨S_, .i32⟩
  | 105 => ⟨S_, .i1⟩
  | 106 => ⟨S320x1, .i1⟩
  | 107 => ⟨S320x1, .i1⟩
  | 108 => ⟨S320x1, .i1⟩
  | 109 => ⟨S320x1, .i32⟩
  | 110 => ⟨S320x1, .i32⟩
  | 111 => ⟨S320x1, .i32⟩
  | 112 => ⟨S_, .i32⟩
  | 113 => ⟨S320x1, .i32⟩
  | 114 => ⟨S320x1, .i1⟩
  | 115 => ⟨S320x80, .i1⟩
  | 116 => ⟨S320x80, .i1⟩
  | 117 => ⟨S320x80, .f32⟩
  | 118 => ⟨S1x80, .f32⟩
  | 119 => ⟨S80, .f32⟩
  | 120 => ⟨S80, .i32⟩
  | 121 => ⟨S80x1, .i32⟩
  | 122 => ⟨S_, .i32⟩
  | 123 => ⟨S_, .i32⟩
  | 124 => ⟨S80x1, .i32⟩
  | 125 => ⟨S80x1, .i32⟩
  | 126 => ⟨S80x1, .i32⟩
  | 127 => ⟨S_, .i32⟩
  | _ => ⟨S8x128x20480x2, .f32⟩

abbrev hbmTy0_1 (i : Nat) : BufTy := match i % 128 with
  | 0 => ⟨S80x1, .i32⟩
  | 1 => ⟨S80x1, .i1⟩
  | 2 => ⟨S80x1, .i32⟩
  | 3 => ⟨S80x1, .i32⟩
  | 4 => ⟨S_, .i32⟩
  | 5 => ⟨S80x1, .i32⟩
  | 6 => ⟨S80x1, .i1⟩
  | 7 => ⟨S80x1, .i1⟩
  | 8 => ⟨S_, .i32⟩
  | 9 => ⟨S80x1, .i32⟩
  | 10 => ⟨S80x1, .i32⟩
  | 11 => ⟨S80x1, .i32⟩
  | 12 => ⟨S10, .i32⟩
  | 13 => ⟨S1x10, .i32⟩
  | 14 => ⟨S80x10, .i32⟩
  | 15 => ⟨S80x10, .i32⟩
  | 16 => ⟨S80x10, .i1⟩
  | 17 => ⟨S80x1, .f32⟩
  | 18 => ⟨S_, .f32⟩
  | 19 => ⟨S_, .f32⟩
  | 20 => ⟨S80x10, .f32⟩
  | 21 => ⟨S80x10, .f32⟩
  | 22 => ⟨S80x10, .f32⟩
  | 23 => ⟨S1x10, .f32⟩
  | 24 => ⟨S1x10, .f32⟩
  | 25 => ⟨S_, .f32⟩
  | 26 => ⟨S10, .f32⟩
  | 27 => ⟨S10, .f32⟩
  | 28 => ⟨S1x10, .f32⟩
  | 29 => ⟨S8x128x1, .f32⟩
  | 30 => ⟨S8x1x128, .f32⟩
  | 31 => ⟨S8x128, .f32⟩
  | 32 => ⟨S8x1x1, .f32⟩
  | 33 => ⟨S8, .f32⟩
  | _ => ⟨S8x128x20480x2, .f32⟩

abbrev hbmTy (i : Nat) : BufTy := match i / 128 with
  | 0 => hbmTy0_0 i
  | 1 => hbmTy0_1 i
  | _ => ⟨S8x128x20480x2, .f32⟩

abbrev bufTy : (tb : Table) → Fin (tcTables nBuf tb) → BufTy
  | .hbm, ⟨i, _⟩ => hbmTy i
  | .local _ .vmem, ⟨0, _⟩ => ⟨S1x128x320x128, .f32⟩
  | .local _ .vmem, ⟨1, _⟩ => ⟨S1x128x320x128, .f32⟩
  | .local _ .vmem, ⟨2, _⟩ => ⟨S320x128, .f32⟩
  | .local _ .vmem, ⟨3, _⟩ => ⟨S320x80, .f32⟩
  | .local _ .vmem, ⟨4, _⟩ => ⟨S320x80, .f32⟩
  | .local _ .vmem, ⟨5, _⟩ => ⟨S1x80, .f32⟩
  | .local _ .vmem, ⟨6, _⟩ => ⟨S80x10, .f32⟩
  | .local _ .vmem, ⟨7, _⟩ => ⟨S1x10, .f32⟩
  | .local _ .vmem, ⟨8, _⟩ => ⟨S1x10, .f32⟩
  | .local _ .vmem, ⟨9, _⟩ => ⟨S1x10, .f32⟩
  | .local _ .vmem, ⟨10, _⟩ => ⟨S1x128x1, .f32⟩
  | .local _ .vmem, ⟨11, _⟩ => ⟨S1x128x1, .f32⟩
  | .local _ .vmem, ⟨12, _⟩ => ⟨S1x1x128, .f32⟩
  | .local _ .vmem, ⟨13, _⟩ => ⟨S1x1x128, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S8x128x20480x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_c : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_call0_c_0 : Ref sig .tc := ⟨.hbm, 34, rfl⟩
abbrev main_call0_call0_v12 : Ref sig .tc := ⟨.hbm, 35, rfl⟩
abbrev main_call0_call0_v13 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_c_0 : Ref sig .tc := ⟨.hbm, 41, rfl⟩
abbrev main_call0_call1_v0 : Ref sig .tc := ⟨.hbm, 42, rfl⟩
abbrev main_call0_call1_c : Ref sig .tc := ⟨.hbm, 43, rfl⟩
abbrev main_call0_call1_v1 : Ref sig .tc := ⟨.hbm, 44, rfl⟩
abbrev main_call0_call1_c_0 : Ref sig .tc := ⟨.hbm, 45, rfl⟩
abbrev main_call0_call1_v2 : Ref sig .tc := ⟨.hbm, 46, rfl⟩
abbrev main_call0_call1_v3 : Ref sig .tc := ⟨.hbm, 47, rfl⟩
abbrev main_call0_call1_v4 : Ref sig .tc := ⟨.hbm, 48, rfl⟩
abbrev main_call0_call1_c_1 : Ref sig .tc := ⟨.hbm, 49, rfl⟩
abbrev main_call0_call1_v5 : Ref sig .tc := ⟨.hbm, 50, rfl⟩
abbrev main_call0_call1_v6 : Ref sig .tc := ⟨.hbm, 51, rfl⟩
abbrev main_call0_call1_c_2 : Ref sig .tc := ⟨.hbm, 52, rfl⟩
abbrev main_call0_call1_v7 : Ref sig .tc := ⟨.hbm, 53, rfl⟩
abbrev main_call0_call1_v8 : Ref sig .tc := ⟨.hbm, 54, rfl⟩
abbrev main_call0_call1_c_3 : Ref sig .tc := ⟨.hbm, 55, rfl⟩
abbrev main_call0_call1_v9 : Ref sig .tc := ⟨.hbm, 56, rfl⟩
abbrev main_call0_call1_v10 : Ref sig .tc := ⟨.hbm, 57, rfl⟩
abbrev main_call0_call1_v11 : Ref sig .tc := ⟨.hbm, 58, rfl⟩
abbrev main_call0_call1_v12 : Ref sig .tc := ⟨.hbm, 59, rfl⟩
abbrev main_call0_call1_v13 : Ref sig .tc := ⟨.hbm, 60, rfl⟩
abbrev main_call0_call1_v14 : Ref sig .tc := ⟨.hbm, 61, rfl⟩
abbrev main_call0_v15 : Ref sig .tc := ⟨.hbm, 62, rfl⟩
abbrev main_call0_c_1 : Ref sig .tc := ⟨.hbm, 63, rfl⟩
abbrev main_call0_v16 : Ref sig .tc := ⟨.hbm, 64, rfl⟩
abbrev main_call0_v17 : Ref sig .tc := ⟨.hbm, 65, rfl⟩
abbrev main_call0_v18 : Ref sig .tc := ⟨.hbm, 66, rfl⟩
abbrev main_call0_v19 : Ref sig .tc := ⟨.hbm, 67, rfl⟩
abbrev main_call0_v20 : Ref sig .tc := ⟨.hbm, 68, rfl⟩
abbrev main_call0_c_2 : Ref sig .tc := ⟨.hbm, 69, rfl⟩
abbrev main_call0_call2_v0 : Ref sig .tc := ⟨.hbm, 70, rfl⟩
abbrev main_call0_call2_v1 : Ref sig .tc := ⟨.hbm, 71, rfl⟩
abbrev main_call0_call2_v2 : Ref sig .tc := ⟨.hbm, 72, rfl⟩
abbrev main_call0_call2_v3 : Ref sig .tc := ⟨.hbm, 73, rfl⟩
abbrev main_call0_call2_v4 : Ref sig .tc := ⟨.hbm, 74, rfl⟩
abbrev main_call0_call2_v5 : Ref sig .tc := ⟨.hbm, 75, rfl⟩
abbrev main_call0_call2_v6 : Ref sig .tc := ⟨.hbm, 76, rfl⟩
abbrev main_call0_call2_v7 : Ref sig .tc := ⟨.hbm, 77, rfl⟩
abbrev main_call0_call2_v8 : Ref sig .tc := ⟨.hbm, 78, rfl⟩
abbrev main_call0_call2_c : Ref sig .tc := ⟨.hbm, 79, rfl⟩
abbrev main_call0_call2_v9 : Ref sig .tc := ⟨.hbm, 80, rfl⟩
abbrev main_call0_call2_v10 : Ref sig .tc := ⟨.hbm, 81, rfl⟩
abbrev main_call0_call2_v11 : Ref sig .tc := ⟨.hbm, 82, rfl⟩
abbrev main_call0_call2_c_0 : Ref sig .tc := ⟨.hbm, 83, rfl⟩
abbrev main_call0_call2_v12 : Ref sig .tc := ⟨.hbm, 84, rfl⟩
abbrev main_call0_call2_v13 : Ref sig .tc := ⟨.hbm, 85, rfl⟩
abbrev main_call0_v21 : Ref sig .tc := ⟨.hbm, 86, rfl⟩
abbrev main_call0_v22 : Ref sig .tc := ⟨.hbm, 87, rfl⟩
abbrev main_call0_v23 : Ref sig .tc := ⟨.hbm, 88, rfl⟩
abbrev main_call0_v24 : Ref sig .tc := ⟨.hbm, 89, rfl⟩
abbrev main_call0_c_3 : Ref sig .tc := ⟨.hbm, 90, rfl⟩
abbrev main_call0_call3_v0 : Ref sig .tc := ⟨.hbm, 91, rfl⟩
abbrev main_call0_call3_c : Ref sig .tc := ⟨.hbm, 92, rfl⟩
abbrev main_call0_call3_v1 : Ref sig .tc := ⟨.hbm, 93, rfl⟩
abbrev main_call0_call3_c_0 : Ref sig .tc := ⟨.hbm, 94, rfl⟩
abbrev main_call0_call3_v2 : Ref sig .tc := ⟨.hbm, 95, rfl⟩
abbrev main_call0_call3_v3 : Ref sig .tc := ⟨.hbm, 96, rfl⟩
abbrev main_call0_call3_v4 : Ref sig .tc := ⟨.hbm, 97, rfl⟩
abbrev main_call0_call3_c_1 : Ref sig .tc := ⟨.hbm, 98, rfl⟩
abbrev main_call0_call3_v5 : Ref sig .tc := ⟨.hbm, 99, rfl⟩
abbrev main_call0_call3_v6 : Ref sig .tc := ⟨.hbm, 100, rfl⟩
abbrev main_call0_call3_c_2 : Ref sig .tc := ⟨.hbm, 101, rfl⟩
abbrev main_call0_call3_v7 : Ref sig .tc := ⟨.hbm, 102, rfl⟩
abbrev main_call0_call3_v8 : Ref sig .tc := ⟨.hbm, 103, rfl⟩
abbrev main_call0_call3_c_3 : Ref sig .tc := ⟨.hbm, 104, rfl⟩
abbrev main_call0_call3_v9 : Ref sig .tc := ⟨.hbm, 105, rfl⟩
abbrev main_call0_call3_v10 : Ref sig .tc := ⟨.hbm, 106, rfl⟩
abbrev main_call0_call3_v11 : Ref sig .tc := ⟨.hbm, 107, rfl⟩
abbrev main_call0_call3_v12 : Ref sig .tc := ⟨.hbm, 108, rfl⟩
abbrev main_call0_call3_v13 : Ref sig .tc := ⟨.hbm, 109, rfl⟩
abbrev main_call0_call3_v14 : Ref sig .tc := ⟨.hbm, 110, rfl⟩
abbrev main_call0_v25 : Ref sig .tc := ⟨.hbm, 111, rfl⟩
abbrev main_call0_c_4 : Ref sig .tc := ⟨.hbm, 112, rfl⟩
abbrev main_call0_v26 : Ref sig .tc := ⟨.hbm, 113, rfl⟩
abbrev main_call0_v27 : Ref sig .tc := ⟨.hbm, 114, rfl⟩
abbrev main_call0_v28 : Ref sig .tc := ⟨.hbm, 115, rfl⟩
abbrev main_call0_v29 : Ref sig .tc := ⟨.hbm, 116, rfl⟩
abbrev main_call0_v30 : Ref sig .tc := ⟨.hbm, 117, rfl⟩
abbrev main_call0_v31 : Ref sig .tc := ⟨.hbm, 118, rfl⟩
abbrev main_call0_v32 : Ref sig .tc := ⟨.hbm, 119, rfl⟩
abbrev main_call0_v33 : Ref sig .tc := ⟨.hbm, 120, rfl⟩
abbrev main_call0_v34 : Ref sig .tc := ⟨.hbm, 121, rfl⟩
abbrev main_call0_c_5 : Ref sig .tc := ⟨.hbm, 122, rfl⟩
abbrev main_call0_call4_v0 : Ref sig .tc := ⟨.hbm, 123, rfl⟩
abbrev main_call0_call4_v1 : Ref sig .tc := ⟨.hbm, 124, rfl⟩
abbrev main_call0_call4_v2 : Ref sig .tc := ⟨.hbm, 125, rfl⟩
abbrev main_call0_call4_v3 : Ref sig .tc := ⟨.hbm, 126, rfl⟩
abbrev main_call0_call4_v4 : Ref sig .tc := ⟨.hbm, 127, rfl⟩
abbrev main_call0_call4_v5 : Ref sig .tc := ⟨.hbm, 128, rfl⟩
abbrev main_call0_call4_v6 : Ref sig .tc := ⟨.hbm, 129, rfl⟩
abbrev main_call0_call4_v7 : Ref sig .tc := ⟨.hbm, 130, rfl⟩
abbrev main_call0_call4_v8 : Ref sig .tc := ⟨.hbm, 131, rfl⟩
abbrev main_call0_call4_c : Ref sig .tc := ⟨.hbm, 132, rfl⟩
abbrev main_call0_call4_v9 : Ref sig .tc := ⟨.hbm, 133, rfl⟩
abbrev main_call0_call4_v10 : Ref sig .tc := ⟨.hbm, 134, rfl⟩
abbrev main_call0_call4_v11 : Ref sig .tc := ⟨.hbm, 135, rfl⟩
abbrev main_call0_call4_c_0 : Ref sig .tc := ⟨.hbm, 136, rfl⟩
abbrev main_call0_call4_v12 : Ref sig .tc := ⟨.hbm, 137, rfl⟩
abbrev main_call0_call4_v13 : Ref sig .tc := ⟨.hbm, 138, rfl⟩
abbrev main_call0_v35 : Ref sig .tc := ⟨.hbm, 139, rfl⟩
abbrev main_call0_v36 : Ref sig .tc := ⟨.hbm, 140, rfl⟩
abbrev main_call0_v37 : Ref sig .tc := ⟨.hbm, 141, rfl⟩
abbrev main_call0_v38 : Ref sig .tc := ⟨.hbm, 142, rfl⟩
abbrev main_call0_v39 : Ref sig .tc := ⟨.hbm, 143, rfl⟩
abbrev main_call0_v40 : Ref sig .tc := ⟨.hbm, 144, rfl⟩
abbrev main_call0_v41 : Ref sig .tc := ⟨.hbm, 145, rfl⟩
abbrev main_call0_cst : Ref sig .tc := ⟨.hbm, 146, rfl⟩
abbrev main_call0_call5_v0 : Ref sig .tc := ⟨.hbm, 147, rfl⟩
abbrev main_call0_call5_v1 : Ref sig .tc := ⟨.hbm, 148, rfl⟩
abbrev main_call0_call5_v2 : Ref sig .tc := ⟨.hbm, 149, rfl⟩
abbrev main_call0_v42 : Ref sig .tc := ⟨.hbm, 150, rfl⟩
abbrev main_call0_v43 : Ref sig .tc := ⟨.hbm, 151, rfl⟩
abbrev main_call0_v44 : Ref sig .tc := ⟨.hbm, 152, rfl⟩
abbrev main_call0_cst_6 : Ref sig .tc := ⟨.hbm, 153, rfl⟩
abbrev main_call0_v45 : Ref sig .tc := ⟨.hbm, 154, rfl⟩
abbrev main_call0_v46 : Ref sig .tc := ⟨.hbm, 155, rfl⟩
abbrev main_call0_v47 : Ref sig .tc := ⟨.hbm, 156, rfl⟩
abbrev main_call0_v48_0 : Ref sig .tc := ⟨.hbm, 157, rfl⟩
abbrev main_call0_v48_1 : Ref sig .tc := ⟨.hbm, 158, rfl⟩
abbrev main_v0_0 : Ref sig .tc := ⟨.hbm, 159, rfl⟩
abbrev main_call0_v50 : Ref sig .tc := ⟨.hbm, 160, rfl⟩
abbrev main_v0_1 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg9_0 : Ref sig .tc := ⟨.smem, 0, rfl⟩
abbrev cc0_stg10_0 : Ref sig .tc := ⟨.smem, 1, rfl⟩
abbrev cc0_scratch0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_34 : BitVec 32 := 0#32
  let v69 : BitVec 1 := Scalar.cmpi .eq arg1 c0_i32_34
  let v70 : BitVec 32 := Scalar.extui v69
  let c0_i32_35 : BitVec 32 := 0#32
  let v71 : BitVec 1 := Scalar.cmpi .ne v70 c0_i32_35
  v71

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x320x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S320x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S320x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S80x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8x128x20480x2 : Shape := ⟨4, ![8, 128, 20480, 2]⟩
abbrev S80x256 : Shape := ⟨2, ![80, 256]⟩
abbrev S80 : Shape := ⟨1, ![80]⟩
abbrev S10x8 : Shape := ⟨2, ![10, 8]⟩
abbrev S10 : Shape := ⟨1, ![10]⟩
abbrev S1 : Shape := ⟨1, ![1]⟩
abbrev S8x128x2x20480 : Shape := ⟨4, ![8, 128, 2, 20480]⟩
abbrev S8x128x2x80x256 : Shape := ⟨5, ![8, 128, 2, 80, 256]⟩
abbrev S80x8x128x2 : Shape := ⟨4, ![80, 8, 128, 2]⟩
abbrev S8x128x2x80 : Shape := ⟨4, ![8, 128, 2, 80]⟩
abbrev S1x1x1x80 : Shape := ⟨4, ![1, 1, 1, 80]⟩
abbrev S_ : Shape := ⟨0, ![]⟩
abbrev S8x128x80 : Shape := ⟨3, ![8, 128, 80]⟩
abbrev S8x128x1x80 : Shape := ⟨4, ![8, 128, 1, 80]⟩
abbrev S8x128x10x8 : Shape := ⟨4, ![8, 128, 10, 8]⟩
abbrev S10x8x128 : Shape := ⟨3, ![10, 8, 128]⟩
abbrev S8x128x10 : Shape := ⟨3, ![8, 128, 10]⟩
abbrev S1x1x10 : Shape := ⟨3, ![1, 1, 10]⟩
abbrev S8x128 : Shape := ⟨2, ![8, 128]⟩
abbrev S8 : Shape := ⟨1, ![8]⟩

abbrev nBuf : Space → Nat
  | .hbm => 56
  | .vmem => 0
  | .smem => 0
  | _ => 0

abbrev bufTy : (tb : Table) → Fin (tcTables nBuf tb) → BufTy
  | .hbm, ⟨0, _⟩ => ⟨S8x128x20480x2, .f32⟩
  | .hbm, ⟨1, _⟩ => ⟨S80x256, .f32⟩
  | .hbm, ⟨2, _⟩ => ⟨S80, .f32⟩
  | .hbm, ⟨3, _⟩ => ⟨S10x8, .f32⟩
  | .hbm, ⟨4, _⟩ => ⟨S10, .f32⟩
  | .hbm, ⟨5, _⟩ => ⟨S10, .f32⟩
  | .hbm, ⟨6, _⟩ => ⟨S1, .f32⟩
  | .hbm, ⟨7, _⟩ => ⟨S10, .f32⟩
  | .hbm, ⟨8, _⟩ => ⟨S1, .f32⟩
  | .hbm, ⟨9, _⟩ => ⟨S8x128x2x20480, .f32⟩
  | .hbm, ⟨10, _⟩ => ⟨S8x128x2x80x256, .f32⟩
  | .hbm, ⟨11, _⟩ => ⟨S80x8x128x2, .f32⟩
  | .hbm, ⟨12, _⟩ => ⟨S8x128x2x80, .f32⟩
  | .hbm, ⟨13, _⟩ => ⟨S1x1x1x80, .f32⟩
  | .hbm, ⟨14, _⟩ => ⟨S8x128x2x80, .f32⟩
  | .hbm, ⟨15, _⟩ => ⟨S8x128x2x80, .f32⟩
  | .hbm, ⟨16, _⟩ => ⟨S_, .f32⟩
  | .hbm, ⟨17, _⟩ => ⟨S8x128x2x80, .f32⟩
  | .hbm, ⟨18, _⟩ => ⟨S8x128x2x80, .f32⟩
  | .hbm, ⟨19, _⟩ => ⟨S_, .f32⟩
  | .hbm, ⟨20, _⟩ => ⟨S8x128x80, .f32⟩
  | .hbm, ⟨21, _⟩ => ⟨S_, .f32⟩
  | .hbm, ⟨22, _⟩ => ⟨S8x128x80, .f32⟩
  | .hbm, ⟨23, _⟩ => ⟨S8x128x80, .f32⟩
  | .hbm, ⟨24, _⟩ => ⟨S8x128x1x80, .f32⟩
  | .hbm, ⟨25, _⟩ => ⟨S8x128x2x80, .f32⟩
  | .hbm, ⟨26, _⟩ => ⟨S8x128x2x80, .f32⟩
  | .hbm, ⟨27, _⟩ => ⟨S8x128x2x80, .f32⟩
  | .hbm, ⟨28, _⟩ => ⟨S_, .f32⟩
  | .hbm, ⟨29, _⟩ => ⟨S8x128x80, .f32⟩
  | .hbm, ⟨30, _⟩ => ⟨S8x128x1x80, .f32⟩
  | .hbm, ⟨31, _⟩ => ⟨S8x128x2x80, .f32⟩
  | .hbm, ⟨32, _⟩ => ⟨S8x128x2x80, .f32⟩
  | .hbm, ⟨33, _⟩ => ⟨S8x128x80, .f32⟩
  | .hbm, ⟨34, _⟩ => ⟨S8x128x10x8, .f32⟩
  | .hbm, ⟨35, _⟩ => ⟨S10x8x128, .f32⟩
  | .hbm, ⟨36, _⟩ => ⟨S8x128x10, .f32⟩
  | .hbm, ⟨37, _⟩ => ⟨S1x1x10, .f32⟩
  | .hbm, ⟨38, _⟩ => ⟨S8x128x10, .f32⟩
  | .hbm, ⟨39, _⟩ => ⟨S8x128x10, .f32⟩
  | .hbm, ⟨40, _⟩ => ⟨S_, .f32⟩
  | .hbm, ⟨41, _⟩ => ⟨S8x128x10, .f32⟩
  | .hbm, ⟨42, _⟩ => ⟨S8x128x10, .f32⟩
  | .hbm, ⟨43, _⟩ => ⟨S8x128, .f32⟩
  | .hbm, ⟨44, _⟩ => ⟨S_, .f32⟩
  | .hbm, ⟨45, _⟩ => ⟨S8x128, .f32⟩
  | .hbm, ⟨46, _⟩ => ⟨S8x128, .f32⟩
  | .hbm, ⟨47, _⟩ => ⟨S8x128, .f32⟩
  | .hbm, ⟨48, _⟩ => ⟨S_, .f32⟩
  | .hbm, ⟨49, _⟩ => ⟨S8x128, .f32⟩
  | .hbm, ⟨50, _⟩ => ⟨S8x128, .f32⟩
  | .hbm, ⟨51, _⟩ => ⟨S_, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | _, _ => ⟨S8x128x20480x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Proof.Algebra.lean ====
module

public import Idealize.ShloMosaic.Lib.IdealHost

/-!
# Algebra over the extended reals

The scalar equations on which the kernel and the reference differ: pooling two lanes by their softmax
weights, taking the mean of an affine head, and sums against a zero/one pattern.
-/

@[expose] public section

open Idealize.ShloMosaic

namespace Cert.BlockNet

/-- The softmax-weighted mean of two values, with one division at the end. -/
noncomputable def pool (a b : EReal) : EReal :=
  Ideal.div (Ideal.exp (a - max a b) * a + Ideal.exp (b - max a b) * b)
    (Ideal.exp (a - max a b) + Ideal.exp (b - max a b))

/-- At an infinite larger value every weight is zero. -/
theorem exp_sub_top {x : EReal} : Ideal.exp (x - ⊤) = 0 := by
  rw [EReal.sub_top]
  rfl

/-- The exponential of a real number. -/
theorem exp_coe (r : ℝ) : Ideal.exp (r : EReal) = (Real.exp r : EReal) := rfl

/-- Dividing a real number by a positive one. -/
theorem div_coe_pos (a : ℝ) {b : ℝ} (hb : 0 < b) : Ideal.div (a : EReal) (b : EReal) = ((a / b : ℝ) : EReal) := by
  have h : (b : EReal) ≠ 0 := by exact_mod_cast hb.ne'
  rw [Ideal.div, if_neg h, ← EReal.coe_inv, ← EReal.coe_mul, div_eq_mul_inv]

/-- Normalising each weight first and then summing gives the same as one division at the end. -/
theorem softmax_pool {a b : EReal} (ha : 0 ≤ a) (hb : 0 ≤ b) :
    Ideal.div (Ideal.exp (a - max a b)) (Ideal.exp (a - max a b) + Ideal.exp (b - max a b)) * a
      + Ideal.div (Ideal.exp (b - max a b)) (Ideal.exp (a - max a b) + Ideal.exp (b - max a b)) * b
      = pool a b := by
  unfold pool
  by_cases h : max a b = ⊤
  · rw [h, exp_sub_top, exp_sub_top]
    have hd : Ideal.div 0 0 = ⊥ := by simp [Ideal.div]
    rw [zero_mul, zero_mul, add_zero, hd]
    rcases max_choice a b with hm | hm
    · have : a = ⊤ := hm.symm.trans h
      subst this
      simp
    · have : b = ⊤ := hm.symm.trans h
      subst this
      simp
  · have ha' : a ≠ ⊤ := fun e => h (by simp [e])
    have hb' : b ≠ ⊤ := fun e => h (by simp [e])
    lift a to ℝ using ⟨ha', fun e => by simp [e] at ha⟩
    lift b to ℝ using ⟨hb', fun e => by simp [e] at hb⟩
    have hmax : max (a : EReal) (b : EReal) = ((max a b : ℝ) : EReal) := by
      rcases le_total a b with hab | hab
      · rw [max_eq_right hab, max_eq_right (by exact_mod_cast hab)]
      · rw [max_eq_left hab, max_eq_left (by exact_mod_cast hab)]
    rw [hmax]
    simp only [← EReal.coe_sub, exp_coe, ← EReal.coe_add, ← EReal.coe_mul]
    have hs : 0 < Real.exp (a - max a b) + Real.exp (b - max a b) := by positivity
    rw [div_coe_pos _ hs, div_coe_pos _ hs, div_coe_pos _ hs]
    simp only [← EReal.coe_add, ← EReal.coe_mul]
    congr 1
    field_simp

/-- The word of the constant by which the mean divides denotes 128. -/
theorem ofBits_128 : Ideal.ofBits .f32 0x43000000#32 = ((128 : ℝ) : EReal) := by
  simp [Ideal.ofBits, Ideal.ieee, -EReal.coe_mul]
  norm_num

/-- Division by 128 is multiplication by its inverse. -/
theorem div_128 (x : EReal) : Ideal.div x ((128 : ℝ) : EReal) = (((1 : ℝ) / 128 : ℝ) : EReal) * x := by
  have h : ((128 : ℝ) : EReal) ≠ 0 := by norm_num
  rw [Ideal.div, if_neg h, ← EReal.coe_inv, mul_comm, one_div]

/-- Multiplication by a non-negative real number distributes over a sum of two. -/
theorem mul_add_coe {r : ℝ} (hr : 0 ≤ r) (x y : EReal) : (r : EReal) * (x + y) = r * x + r * y :=
  EReal.left_distrib_of_nonneg_of_ne_top (by exact_mod_cast hr) (EReal.coe_ne_top r) x y

/-- Multiplication by a non-negative real number distributes over a finite sum. -/
theorem coe_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert i s hi ih =>
    rw [Finset.sum_insert hi, Finset.sum_insert hi, mul_add_coe hr, ih]

/-- 128 copies of a 128th of a value add up to that value. -/
theorem sum_128th (b : EReal) : ∑ _n : Fin 128, (((1 : ℝ) / 128 : ℝ) : EReal) * b = b := by
  induction b with
  | bot =>
    rw [EReal.coe_mul_bot_of_pos (by norm_num), Fin.sum_univ_succ, EReal.bot_add]
  | top =>
    rw [EReal.coe_mul_top_of_pos (by norm_num)]
    have h : ∀ s : Finset (Fin 128), s.Nonempty → ∑ _n ∈ s, (⊤ : EReal) = ⊤ := by
      intro s hs
      induction hs using Finset.Nonempty.cons_induction with
      | singleton a => simp
      | cons a s ha hs ih => rw [Finset.sum_cons, ih, EReal.top_add_top]
    exact h _ Finset.univ_nonempty
  | coe r =>
    simp only [← EReal.coe_mul, Finset.sum_const, Finset.card_univ, Fintype.card_fin]
    rw [← EReal.coe_nsmul]
    congr 1
    rw [nsmul_eq_mul]
    push_cast
    ring

/-- The mean over 128 rows of an affine head is the sum of the products with the scaled weights, plus the bias. -/
theorem mean_head (f : Fin 128 → Fin 10 → EReal) (w : Fin 10 → EReal) (b : EReal) :
    Ideal.div (∑ n, ((∑ c, f n c * w c) + b)) ((128 : ℝ) : EReal)
      = (∑ n, ∑ c, f n c * Ideal.div (w c) ((128 : ℝ) : EReal)) + b := by
  have hr : (0 : ℝ) ≤ 1 / 128 := by norm_num
  rw [div_128, coe_mul_sum _ hr]
  simp only [mul_add_coe hr, coe_mul_sum _ hr, Finset.sum_add_distrib, sum_128th, div_128]
  congr 1
  refine Finset.sum_congr rfl fun n _ => Finset.sum_congr rfl fun c _ => ?_
  rw [← mul_assoc, ← mul_assoc, mul_comm (f n c)]

end Cert.BlockNet

end
-- ==== Proof.Spec.lean ====
module

public import proofs.«01_k».proof.Proof.Algebra
public import Idealize.ShloMosaic.Lib.Pointwise.Index

/-!
# The values of the network

Each layer as a plain function of the arguments, entry by entry: the first layer with its rectifier, the pooling of a
block's two coordinates, the channel features, and the two heads.
-/

@[expose] public section

noncomputable section

open Idealize.ShloMosaic

namespace Cert.BlockNet

/-- An array of extended reals. -/
abbrev Arr (r : ℕ) (d : Fin r → ℕ) := (⟨r, d⟩ : Shape).Idx → EReal

variable (x : Arr 4 ![8, 128, 20480, 2]) (W1 : Arr 2 ![80, 256]) (b1 : Arr 1 ![80])
  (W2 : Arr 2 ![10, 8]) (b2 : Arr 1 ![10])

/-- The first layer: the 256 points of block `b`, coordinate `z`, against that block's weights. -/
def layer1 (v : Fin 8) (n : Fin 128) (z : Fin 2) (b : Fin 80) : EReal :=
  max ((∑ k : Fin 256, W1 (ix2 b k) * x (ix4 v n ⟨b.val * 256 + k.val, by omega⟩ z)) + b1 (ix1 b)) 0

/-- A rectified value is not negative. -/
theorem layer1_nonneg (v : Fin 8) (n : Fin 128) (z : Fin 2) (b : Fin 80) : 0 ≤ layer1 x W1 b1 v n z b :=
  le_max_right _ _

/-- The two coordinates of a block, pooled. -/
def pooled (v : Fin 8) (n : Fin 128) (b : Fin 80) : EReal :=
  pool (layer1 x W1 b1 v n 0 b) (layer1 x W1 b1 v n 1 b)

/-- The features: the eight blocks of channel `k` against that channel's weights. -/
def feat (v : Fin 8) (n : Fin 128) (k : Fin 10) : EReal :=
  max ((∑ q : Fin 8, W2 (ix2 k q) * pooled x W1 b1 v n ⟨k.val * 8 + q.val, by omega⟩) + b2 (ix1 k)) 0

/-- The actor head. -/
def actor (Wa : Arr 1 ![10]) (ba : Arr 1 ![1]) (v : Fin 8) (n : Fin 128) : EReal :=
  (∑ k : Fin 10, feat x W1 b1 W2 b2 v n k * Wa (ix1 k)) + ba (ix1 0)

/-- The critic head with the mean's division taken into the weights. -/
def critic (Wc : Arr 1 ![10]) (bc : Arr 1 ![1]) (v : Fin 8) : EReal :=
  (∑ n : Fin 128, ∑ k : Fin 10, feat x W1 b1 W2 b2 v n k * Ideal.div (Wc (ix1 k)) ((128 : ℝ) : EReal)) + bc (ix1 0)

end Cert.BlockNet

end
-- ==== Proof.Reference.lean ====
module

public import proofs.«01_k».proof.Proof.Spec
public import proofs.«01_k».proof.Proof.Gen.ReferenceIdeal.Read
public import Idealize.ShloMosaic.Lib.Pointwise

/-!
# What the reference computes

The reference's stages read at an index, up to its two results.
-/

set_option maxRecDepth 16384

@[expose] public section

noncomputable section

open Idealize.ShloMosaic Idealize.ShloMosaic.TcCoe
open Cert.ReferenceIdeal Cert.ReferenceIdeal.Gen Cert.ReferenceIdeal.Read

namespace Cert.BlockNet.Reference

variable (x : Arr 4 ![8, 128, 20480, 2]) (W1 : Arr 2 ![80, 256]) (b1 : Arr 1 ![80])
  (W2 : Arr 2 ![10, 8]) (b2 : Arr 1 ![10]) (Wa : Arr 1 ![10]) (ba : Arr 1 ![1]) (Wc : Arr 1 ![10]) (bc : Arr 1 ![1])

/-- The rectified first layer. -/
theorem ys_apply (v : Fin 8) (n : Fin 128) (z : Fin 2) (b : Fin 80) :
    val_main_v7 (F := Ideal) x W1 b1 (ix4 v n z b) = layer1 x W1 b1 v n z b := by
  unfold val_main_v7 val_main_v6 val_main_v5 val_main_v4 val_main_v3 val_main_v2 val_main_v1 val_main_v0
    val_main_call0_v0 val_main_call0_cst layer1
  pointwise

/-- The word from which the maximum starts denotes minus infinity. -/
theorem ofBits_neg_inf : Ideal.ofBits .f32 0xFF800000#32 = (⊥ : EReal) := by
  simp [Ideal.ofBits, Ideal.ieee]

/-- The maximum of two values, folded from a start. -/
theorem fold_max_two (a : EReal) (f : Fin 2 → EReal) :
    Finset.fold max a f Finset.univ = max (f 0) (max (f 1) a) := by
  have h : (Finset.univ : Finset (Fin 2)) = insert 0 {1} := by decide
  rw [h, Finset.fold_insert (by decide), Finset.fold_singleton]

/-- The larger of a block's two coordinates. -/
theorem max_apply (v : Fin 8) (n : Fin 128) (b : Fin 80) :
    val_main_v10 (F := Ideal) x W1 b1 (ix3 v n b) = max (layer1 x W1 b1 v n 0 b) (layer1 x W1 b1 v n 1 b) := by
  unfold val_main_v10 val_main_v9 val_main_v8 val_main_cst_0 val_main_cst
  pointwise
  simp only [ys_apply]
  rw [fold_max_two, ofBits_neg_inf]
  simp

/-- The weights before they are normalised. -/
theorem exp_apply (v : Fin 8) (n : Fin 128) (z : Fin 2) (b : Fin 80) :
    val_main_v14 (F := Ideal) x W1 b1 (ix4 v n z b)
      = Ideal.exp (layer1 x W1 b1 v n z b - max (layer1 x W1 b1 v n 0 b) (layer1 x W1 b1 v n 1 b)) := by
  unfold val_main_v14 val_main_v13 val_main_v12 val_main_v11
  pointwise
  rw [ys_apply, max_apply]

/-- The pooled blocks. -/
theorem pooled_apply (v : Fin 8) (n : Fin 128) (b : Fin 80) :
    val_main_v19 (F := Ideal) x W1 b1 (ix3 v n b) = pooled x W1 b1 v n b := by
  unfold val_main_v19 val_main_v18 val_main_v17 val_main_v16 val_main_v15 val_main_cst_1
  pointwise
  simp only [exp_apply, ys_apply, Fin.sum_univ_two]
  exact softmax_pool (layer1_nonneg ..) (layer1_nonneg ..)

/-- The features. -/
theorem feat_apply (v : Fin 8) (n : Fin 128) (k : Fin 10) :
    val_main_v26 (F := Ideal) x W1 b1 W2 b2 (ix3 v n k) = feat x W1 b1 W2 b2 v n k := by
  unfold val_main_v26 val_main_v25 val_main_v24 val_main_v23 val_main_v22 val_main_v21 val_main_v20
    val_main_call1_v0 val_main_call1_cst
  pointwise
  simp only [pooled_apply]
  rfl

/-- The first result. -/
theorem actor_apply (v : Fin 8) (n : Fin 128) :
    val_main_v30 (F := Ideal) x W1 b1 W2 b2 Wa ba (ix2 v n) = actor x W1 b1 W2 b2 Wa ba v n := by
  unfold val_main_v30 val_main_v29 val_main_v28 val_main_v27
  pointwise
  simp only [feat_apply]
  rfl

/-- The second result. -/
theorem critic_apply (v : Fin 8) :
    val_main_v37 (F := Ideal) x W1 b1 W2 b2 Wc bc (ix1 v) = critic x W1 b1 W2 b2 Wc bc v := by
  unfold val_main_v37 val_main_v36 val_main_v35 val_main_v34 val_main_v33 val_main_v32 val_main_v31 val_main_cst_2 val_main_cst_3
  pointwise
  simp only [feat_apply]
  rw [ofBits_128, mean_head]
  rfl

end Cert.BlockNet.Reference

end
-- ==== Proof.Block.lean ====
module

public import proofs.«01_k».proof.Proof.Spec
public import proofs.«01_k».proof.Proof.Gen.KernelIdeal.Skeleton
public import Idealize.ShloMosaic.Lib.Pointwise

/-!
# What one block computes

The vector expressions of the kernel's body read at an index.
-/

set_option maxRecDepth 16384

@[expose] public section

noncomputable section

open Idealize.ShloMosaic Idealize.ShloMosaic.TcCoe
open Cert.KernelIdeal Cert.KernelIdeal.Gen

namespace Cert.BlockNet

/-- The second layer's product over the pooled blocks. -/
theorem pay5_apply (x : Arr 4 ![1, 128, 320, 128]) (w : Arr 2 ![320, 128]) (g0 g1 : Arr 2 ![320, 80])
    (b1 : Arr 2 ![1, 80]) (w2 : Arr 2 ![80, 10]) (n : Fin 128) (k : Fin 10) :
    k0_pay5 (F := Ideal) x w g0 g1 b1 w2 (ix2 n k)
      = ∑ b : Fin 80,
          pool (max ((∑ r : Fin 320, (∑ l : Fin 128, x (ix4 0 n r l) * w (ix2 r l)) * g0 (ix2 r b)) + b1 (ix2 0 b)) 0)
            (max ((∑ r : Fin 320, (∑ l : Fin 128, x (ix4 0 n r l) * w (ix2 r l)) * g1 (ix2 r b)) + b1 (ix2 0 b)) 0)
          * w2 (ix2 b k) := by
  unfold pool
  pointwise! [k0_pay5]

/-- The features. -/
theorem pay1_apply (s : Arr 2 ![128, 10]) (b2 : Arr 2 ![1, 10]) (n : Fin 128) (k : Fin 10) :
    k0_pay1 (F := Ideal) s b2 (ix2 n k) = max (s (ix2 n k) + b2 (ix2 0 k)) 0 := by
  pointwise [k0_pay1]

/-- The actor's block. -/
theorem pay2_apply (s : Arr 2 ![128, 10]) (b2 wa : Arr 2 ![1, 10]) (ba : EReal) (n : Fin 128) :
    k0_pay2 (F := Ideal) s b2 wa ba (ix3 0 n 0)
      = (∑ k : Fin 10, max (s (ix2 n k) + b2 (ix2 0 k)) 0 * wa (ix2 0 k)) + ba := by
  pointwise [k0_pay2, k0_pay1]

/-- The critic's sum, added to what the word held. -/
theorem pay3_apply (s : Arr 2 ![128, 10]) (b2 wc : Arr 2 ![1, 10]) (a : EReal) :
    k0_pay3 (F := Ideal) s b2 wc a
      = a + ∑ n : Fin 128, ∑ k : Fin 10, max (s (ix2 n k) + b2 (ix2 0 k)) 0 * wc (ix2 0 k) := by
  pointwise [k0_pay3, k0_pay1]

/-- The critic's block: one word in every lane. -/
theorem pay4_apply (a b : EReal) (l : Fin 128) : k0_pay4 (F := Ideal) a b (ix3 0 0 l) = a + b := by
  pointwise [k0_pay4]

end Cert.BlockNet

end
-- ==== Proof.Operands.lean ====
module

public import proofs.«01_k».proof.Proof.Gen.KernelIdeal.Frame.Runs
public import Idealize.ShloMosaic.Lib.StableHlo.ReadAt
public import Idealize.ShloMosaic.Lib.Tactic.WordOmega
public import Idealize.ShloMosaic.Lib.Pointwise
public import Idealize.ShloMosaic.Lib.IdealHost

/-!
# The operands of the kernel

What the host lines before the kernel leave in each operand array, read at an index as an element of an argument.
-/

set_option maxRecDepth 16384

@[expose] public section

noncomputable section

open Idealize.ShloMosaic Idealize.ShloMosaic.TcCoe
open Cert.KernelIdeal Cert.KernelIdeal.Gen

namespace Cert.BlockNet

/-- The sign of a word. -/
def signWord (w : BitVec 32) : BitVec 32 := if w = 0 then 0 else if w.msb = true then -1 else 1

/-- Division rounding down, as the host spells it: one less than the truncated quotient where the signs differ and a
    remainder is left. -/
def floorDiv (a d : BitVec 32) : BitVec 32 :=
  Scalar.select
    (IntOp.andi (IntOp.cmpi .ne (signWord a) (signWord d)) (IntOp.cmpi .ne (IntOp.remsi .host a d) 0#32))
    (IntOp.subi (IntOp.divsi .host a d) 1#32) (IntOp.divsi .host a d)

/-- The divisor of a remainder, with zero replaced by one. -/
def safeDivisor (d : BitVec 32) : BitVec 32 := Scalar.select (IntOp.cmpi .eq d 0#32) 1#32 d

/-- The remainder with the divisor's sign, as the host spells it. -/
def floorMod (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d))
    (IntOp.remsi .host a (safeDivisor d))

/-- A row's number divided by four. -/
theorem floorDiv_four : ∀ r : Fin 320, floorDiv (BitVec.ofNat 32 r.val) 4#32 = BitVec.ofNat 32 (r.val / 4) := by
  decide +kernel

/-- The parity of a row's number. -/
theorem floorMod_two : ∀ r : Fin 320, floorMod (BitVec.ofNat 32 r.val) 2#32 = BitVec.ofNat 32 (r.val % 2) := by
  decide +kernel

/-- A block's number divided by eight. -/
theorem floorDiv_eight : ∀ b : Fin 80, floorDiv (BitVec.ofNat 32 b.val) 8#32 = BitVec.ofNat 32 (b.val / 8) := by
  decide +kernel

/-- A bit as a number of the extended reals. -/
theorem uitofp_and (p q : Bool) :
    (FloatOps.uitofp (F := Ideal) .f32 (IntOp.andi (BitVec.ofBool p) (BitVec.ofBool q)) : EReal)
      = if p = true ∧ q = true then 1 else 0 := by
  cases p <;> cases q <;> simp [IntOp.andi, FloatOps.uitofp]

variable (m : (ℓ : Loc nD τ sig) → Buf (Elt Ideal) ℓ) (c : Dev nD)

/-- The input as lane-dense rows: row `2 j + z` holds coordinate `z` of the points `128 j …`. -/
theorem V_xp (v : Fin 8) (n : Fin 128) (r : Fin 320) (l : Fin 128) :
    V m c main_call0_v2 (ix4 v n r l)
      = m ((c : Thread nD τ).loc main_arg0) (ix4 v n ⟨r.val / 2 * 128 + l.val, by omega⟩ ⟨r.val % 2, by omega⟩) := by
  show StableHlo.after (List.flatten [hostOps0]) (fun b => m (c, b)) (Proc.devRef .tc main_call0_v2) (ix4 v n r l) = _
  simp only [List.flatten_cons, List.flatten_nil, List.append_nil]
  after_reads_at

/-- The first layer's weights, a row for every row of the input. -/
theorem V_w (r : Fin 320) (l : Fin 128) :
    V m c main_call0_v6 (ix2 r l)
      = m ((c : Thread nD τ).loc main_arg1) (ix2 ⟨r.val / 4, by omega⟩ ⟨r.val % 4 / 2 * 128 + l.val, by omega⟩) := by
  show StableHlo.after (List.flatten [hostOps0]) (fun b => m (c, b)) (Proc.devRef .tc main_call0_v6) (ix2 r l) = _
  simp only [List.flatten_cons, List.flatten_nil, List.append_nil]
  after_reads_at

/-- The pattern that adds up the rows of block `b` that hold the first coordinate. -/
theorem V_g0 (r : Fin 320) (b : Fin 80) :
    V m c main_call0_v20 (ix2 r b) = (if r.val / 4 = b.val ∧ r.val % 2 = 0 then 1 else 0 : EReal) := by
  show StableHlo.after (List.flatten [hostOps0]) (fun b => m (c, b)) (Proc.devRef .tc main_call0_v20) (ix2 r b) = _
  simp only [List.flatten_cons, List.flatten_nil, List.append_nil]
  after_reads_at
  change FloatOps.uitofp (F := Ideal) .f32
    (IntOp.andi (IntOp.cmpi .eq (floorDiv (BitVec.ofNat 32 r.val) 4#32) (BitVec.ofNat 32 b.val))
      (IntOp.cmpi .eq (floorMod (BitVec.ofNat 32 r.val) 2#32) (BitVec.ofNat 32 0))) = _
  rw [floorDiv_four, floorMod_two, WordCmp.cmpi_eq_ofNat (by omega) (by omega), WordCmp.cmpi_eq_ofNat (by omega) (by omega), uitofp_and]
  simp only [decide_eq_true_eq]

/-- The pattern that adds up the rows of block `b` that hold the second coordinate. -/
theorem V_g1 (r : Fin 320) (b : Fin 80) :
    V m c main_call0_v30 (ix2 r b) = (if r.val / 4 = b.val ∧ r.val % 2 = 1 then 1 else 0 : EReal) := by
  show StableHlo.after (List.flatten [hostOps0]) (fun b => m (c, b)) (Proc.devRef .tc main_call0_v30) (ix2 r b) = _
  simp only [List.flatten_cons, List.flatten_nil, List.append_nil]
  after_reads_at
  change FloatOps.uitofp (F := Ideal) .f32
    (IntOp.andi (IntOp.cmpi .eq (floorDiv (BitVec.ofNat 32 r.val) 4#32) (BitVec.ofNat 32 b.val))
      (IntOp.cmpi .eq (floorMod (BitVec.ofNat 32 r.val) 2#32) (BitVec.ofNat 32 1))) = _
  rw [floorDiv_four, floorMod_two, WordCmp.cmpi_eq_ofNat (by omega) (by omega), WordCmp.cmpi_eq_ofNat (by omega) (by omega), uitofp_and]
  simp only [decide_eq_true_eq]

/-- The second layer's weights, spread over the blocks of their channel. -/
theorem V_w2 (b : Fin 80) (k : Fin 10) :
    V m c main_call0_v42 (ix2 b k)
      = (if b.val / 8 = k.val then m ((c : Thread nD τ).loc main_arg3) (ix2 ⟨b.val / 8, by omega⟩ ⟨b.val % 8, by omega⟩) else 0 : EReal) := by
  show StableHlo.after (List.flatten [hostOps0]) (fun b => m (c, b)) (Proc.devRef .tc main_call0_v42) (ix2 b k) = _
  simp only [List.flatten_cons, List.flatten_nil, List.append_nil]
  after_reads_at
  change Scalar.select
    (IntOp.cmpi .eq (floorDiv (BitVec.ofNat 32 b.val) 8#32) (BitVec.ofNat 32 k.val)) _ (Ideal.ofBits .f32 0x00000000#32) = _
  rw [floorDiv_eight, WordCmp.cmpi_eq_ofNat (by omega) (by omega), Ideal.ofBits_zero_f32]
  by_cases h : b.val / 8 = k.val <;> simp [Scalar.select, h]

/-- The critic's weights, divided by the number of rows. -/
theorem V_wc (k : Fin 10) :
    V m c main_call0_v47 (ix2 0 k) = Ideal.div (m ((c : Thread nD τ).loc main_arg7) (ix1 k)) (Ideal.ofBits .f32 0x43000000#32) := by
  show StableHlo.after (List.flatten [hostOps0]) (fun b => m (c, b)) (Proc.devRef .tc main_call0_v47) (ix2 0 k) = _
  simp only [List.flatten_cons, List.flatten_nil, List.append_nil]
  after_reads_at

/-- The first layer's bias as a row. -/
theorem V_b1 (k : Fin 80) : V m c main_call0_v31 (ix2 0 k) = m ((c : Thread nD τ).loc main_arg2) (ix1 k) := by
  show StableHlo.after (List.flatten [hostOps0]) (fun b => m (c, b)) (Proc.devRef .tc main_call0_v31) (ix2 0 k) = _
  simp only [List.flatten_cons, List.flatten_nil, List.append_nil]
  after_reads_at

/-- The second layer's bias as a row. -/
theorem V_b2 (k : Fin 10) : V m c main_call0_v43 (ix2 0 k) = m ((c : Thread nD τ).loc main_arg4) (ix1 k) := by
  show StableHlo.after (List.flatten [hostOps0]) (fun b => m (c, b)) (Proc.devRef .tc main_call0_v43) (ix2 0 k) = _
  simp only [List.flatten_cons, List.flatten_nil, List.append_nil]
  after_reads_at

/-- The actor's weights as a row. -/
theorem V_wa (k : Fin 10) : V m c main_call0_v44 (ix2 0 k) = m ((c : Thread nD τ).loc main_arg5) (ix1 k) := by
  show StableHlo.after (List.flatten [hostOps0]) (fun b => m (c, b)) (Proc.devRef .tc main_call0_v44) (ix2 0 k) = _
  simp only [List.flatten_cons, List.flatten_nil, List.append_nil]
  after_reads_at

end Cert.BlockNet

end
-- ==== Proof.Reads.lean ====
module

public import proofs.«01_k».proof.Proof.Spec
public import proofs.«01_k».proof.Proof.Operands
public import proofs.«01_k».proof.Proof.Gen.KernelIdeal.Frame
public import Idealize.ShloMosaic.Lib.Pipeline.ValueKit

/-!
# What a block of an operand holds

Each operand's block read at an index of the operand's array.
-/

set_option maxRecDepth 16384

@[expose] public section

noncomputable section

open Idealize.ShloMosaic Idealize.ShloMosaic.TcCoe Idealize.ShloMosaic.Tactic
open Cert.KernelIdeal Cert.KernelIdeal.Gen

namespace Cert.BlockNet

variable (m : (ℓ : Loc nD τ sig) → Buf (Elt Ideal) ℓ)

/-- The input moves one block along the first axis at each point. -/
theorem idx_in : ∀ t : Fin grid0.N, win0_0.index t = ![t.val, 0, 0, 0] := by decide +kernel

/-- So does the actor's array. -/
theorem idx_actor : ∀ t : Fin grid0.N, win0_11.index t = ![t.val, 0, 0] := by decide +kernel

/-- And the critic's array. -/
theorem idx_critic : ∀ t : Fin grid0.N, win0_12.index t = ![t.val, 0, 0] := by decide +kernel

/-- There are eight points. -/
theorem point_lt (t : Fin cfg0.N) : t.val < 8 := t.isLt

/-- The input's block at a point. -/
theorem read_x (c : Dev nD) (t : Fin cfg0.N) (n : Fin 128) (r : Fin 320) (l : Fin 128) :
    (iblk m c 0 t (ix4 0 n r l) : EReal) = m ((c : Thread nD τ).loc main_arg0) (ix4 ⟨t.val, point_lt t⟩ n ⟨r.val / 2 * 128 + l.val, by omega⟩ ⟨r.val % 2, by omega⟩) := by
  have h : iblk m c 0 t (ix4 0 n r l) = V m c main_call0_v2 (ix4 ⟨t.val, point_lt t⟩ n r l) := by
    blk_ext [iblk, idx_in t]
  exact h.trans (V_xp m c ⟨t.val, point_lt t⟩ n r l)

/-- Every point reads the first layer's weights whole. -/
theorem read_w (c : Dev nD) (t : Fin cfg0.N) (i : Fin 320) (j : Fin 128) :
    (iblk m c 1 t (ix2 i j) : EReal) = m ((c : Thread nD τ).loc main_arg1) (ix2 ⟨i.val / 4, by omega⟩ ⟨i.val % 4 / 2 * 128 + j.val, by omega⟩) := by
  have e : ∀ t : Fin grid0.N, win0_1.index t = ![0, 0] := by decide +kernel
  have h : iblk m c 1 t (ix2 i j) = V m c main_call0_v6 (ix2 i j) := by
    blk_ext [iblk, e t]
  exact h.trans (V_w m c i j)

/-- Every point reads the first pattern whole. -/
theorem read_g0 (c : Dev nD) (t : Fin cfg0.N) (i : Fin 320) (j : Fin 80) :
    (iblk m c 2 t (ix2 i j) : EReal) = (if i.val / 4 = j.val ∧ i.val % 2 = 0 then 1 else 0 : EReal) := by
  have e : ∀ t : Fin grid0.N, win0_2.index t = ![0, 0] := by decide +kernel
  have h : iblk m c 2 t (ix2 i j) = V m c main_call0_v20 (ix2 i j) := by
    blk_ext [iblk, e t]
  exact h.trans (V_g0 m c i j)

/-- Every point reads the second pattern whole. -/
theorem read_g1 (c : Dev nD) (t : Fin cfg0.N) (i : Fin 320) (j : Fin 80) :
    (iblk m c 3 t (ix2 i j) : EReal) = (if i.val / 4 = j.val ∧ i.val % 2 = 1 then 1 else 0 : EReal) := by
  have e : ∀ t : Fin grid0.N, win0_3.index t = ![0, 0] := by decide +kernel
  have h : iblk m c 3 t (ix2 i j) = V m c main_call0_v30 (ix2 i j) := by
    blk_ext [iblk, e t]
  exact h.trans (V_g1 m c i j)

/-- Every point reads the first layer's bias whole. -/
theorem read_b1 (c : Dev nD) (t : Fin cfg0.N) (j : Fin 80) :
    (iblk m c 4 t (ix2 0 j) : EReal) = m ((c : Thread nD τ).loc main_arg2) (ix1 j) := by
  have e : ∀ t : Fin grid0.N, win0_4.index t = ![0, 0] := by decide +kernel
  have h : iblk m c 4 t (ix2 0 j) = V m c main_call0_v31 (ix2 0 j) := by
    blk_ext [iblk, e t]
  exact h.trans (V_b1 m c j)

/-- Every point reads the second layer's weights whole. -/
theorem read_w2 (c : Dev nD) (t : Fin cfg0.N) (i : Fin 80) (j : Fin 10) :
    (iblk m c 5 t (ix2 i j) : EReal) = (if i.val / 8 = j.val then m ((c : Thread nD τ).loc main_arg3) (ix2 ⟨i.val / 8, by omega⟩ ⟨i.val % 8, by omega⟩) else 0 : EReal) := by
  have e : ∀ t : Fin grid0.N, win0_5.index t = ![0, 0] := by decide +kernel
  have h : iblk m c 5 t (ix2 i j) = V m c main_call0_v42 (ix2 i j) := by
    blk_ext [iblk, e t]
  exact h.trans (V_w2 m c i j)

/-- Every point reads the second layer's bias whole. -/
theorem read_b2 (c : Dev nD) (t : Fin cfg0.N) (j : Fin 10) :
    (iblk m c 6 t (ix2 0 j) : EReal) = m ((c : Thread nD τ).loc main_arg4) (ix1 j) := by
  have e : ∀ t : Fin grid0.N, win0_6.index t = ![0, 0] := by decide +kernel
  have h : iblk m c 6 t (ix2 0 j) = V m c main_call0_v43 (ix2 0 j) := by
    blk_ext [iblk, e t]
  exact h.trans (V_b2 m c j)

/-- Every point reads the actor's weights whole. -/
theorem read_wa (c : Dev nD) (t : Fin cfg0.N) (j : Fin 10) :
    (iblk m c 7 t (ix2 0 j) : EReal) = m ((c : Thread nD τ).loc main_arg5) (ix1 j) := by
  have e : ∀ t : Fin grid0.N, win0_7.index t = ![0, 0] := by decide +kernel
  have h : iblk m c 7 t (ix2 0 j) = V m c main_call0_v44 (ix2 0 j) := by
    blk_ext [iblk, e t]
  exact h.trans (V_wa m c j)

/-- Every point reads the critic's weights whole. -/
theorem read_wc (c : Dev nD) (t : Fin cfg0.N) (j : Fin 10) :
    (iblk m c 8 t (ix2 0 j) : EReal) = Ideal.div (m ((c : Thread nD τ).loc main_arg7) (ix1 j)) (Ideal.ofBits .f32 0x43000000#32) := by
  have e : ∀ t : Fin grid0.N, win0_8.index t = ![0, 0] := by decide +kernel
  have h : iblk m c 8 t (ix2 0 j) = V m c main_call0_v47 (ix2 0 j) := by
    blk_ext [iblk, e t]
  exact h.trans (V_wc m c j)

/-- Every point reads the actor's bias. -/
theorem read_ba (c : Dev nD) (t : Fin cfg0.N) :
    iblk m c 9 t (ix1 0) = m ((c : Thread nD τ).loc main_arg6) (ix1 0) := by
  have e : ∀ t : Fin grid0.N, win0_9.index t = ![0] := by decide +kernel
  blk_ext [iblk, e t]

/-- Every point reads the critic's bias. -/
theorem read_bc (c : Dev nD) (t : Fin cfg0.N) :
    iblk m c 10 t (ix1 0) = m ((c : Thread nD τ).loc main_arg8) (ix1 0) := by
  have e : ∀ t : Fin grid0.N, win0_10.index t = ![0] := by decide +kernel
  blk_ext [iblk, e t]

end Cert.BlockNet

end
-- ==== Proof.Equation.lean ====
module

public import proofs.«01_k».proof.Proof.Block

/-!
# The equation

The kernel's sums over rows of half a block, with its zero-one patterns, are the network's sums over blocks.
-/

set_option maxRecDepth 16384

@[expose] public section

noncomputable section

open Idealize.ShloMosaic Idealize.ShloMosaic.TcCoe
open Cert.KernelIdeal.Gen

namespace Cert.BlockNet

/-- The pattern of block `b` and coordinate `z` picks two rows out of the 320. -/
theorem sum_pattern (u : Fin 320 → EReal) (b : Fin 80) (z : Fin 2) :
    ∑ r : Fin 320, u r * (if r.val / 4 = b.val ∧ r.val % 2 = z.val then 1 else 0)
      = u ⟨4 * b.val + z.val, by omega⟩ + u ⟨4 * b.val + z.val + 2, by omega⟩ := by
  simp only [mul_ite, mul_one, mul_zero]
  rw [← Finset.sum_filter]
  have h : (Finset.univ.filter fun r : Fin 320 => r.val / 4 = b.val ∧ r.val % 2 = z.val)
      = {⟨4 * b.val + z.val, by omega⟩, ⟨4 * b.val + z.val + 2, by omega⟩} := by
    ext r
    simp only [Finset.mem_filter, Finset.mem_univ, true_and, Finset.mem_insert, Finset.mem_singleton, Fin.ext_iff]
    omega
  rw [h, Finset.sum_pair (by simp [Fin.ext_iff])]

/-- The pattern of channel `k` keeps eight of the eighty blocks. -/
theorem sum_channel (f : Fin 80 → EReal) (W2 : Arr 2 ![10, 8]) (k : Fin 10) :
    ∑ b : Fin 80, f b * (if b.val / 8 = k.val then W2 (ix2 ⟨b.val / 8, by omega⟩ ⟨b.val % 8, by omega⟩) else 0)
      = ∑ q : Fin 8, W2 (ix2 k q) * f ⟨k.val * 8 + q.val, by omega⟩ := by
  simp only [mul_ite, mul_zero]
  rw [← Finset.sum_filter]
  refine Finset.sum_nbij' (fun b => ⟨b.val % 8, by omega⟩) (fun q => ⟨k.val * 8 + q.val, by omega⟩) ?_ ?_ ?_ ?_ ?_
  · intro b _; exact Finset.mem_univ _
  · intro q _
    simp only [Finset.mem_filter, Finset.mem_univ, true_and]
    omega
  · intro b hb
    simp only [Finset.mem_filter, Finset.mem_univ, true_and] at hb
    ext
    simp only
    omega
  · intro q _
    ext
    simp only
    omega
  · intro b hb
    simp only [Finset.mem_filter, Finset.mem_univ, true_and] at hb
    have e1 : (⟨b.val / 8, by omega⟩ : Fin 10) = k := Fin.ext hb
    have e2 : (⟨k.val * 8 + b.val % 8, by omega⟩ : Fin 80) = b := Fin.ext (by simp only; omega)
    rw [e1, e2, mul_comm]

/-- The first layer from the rows: row `r` holds half of the points of block `r / 4` in coordinate `r % 2`. -/
theorem layer1_eq (x : Arr 4 ![8, 128, 20480, 2]) (W1 : Arr 2 ![80, 256]) (b1 : Arr 1 ![80])
    (v : Fin 8) (n : Fin 128) (z : Fin 2) (b : Fin 80) :
    max ((∑ r : Fin 320,
        (∑ l : Fin 128, x (ix4 v n ⟨r.val / 2 * 128 + l.val, by omega⟩ ⟨r.val % 2, by omega⟩)
          * W1 (ix2 ⟨r.val / 4, by omega⟩ ⟨r.val % 4 / 2 * 128 + l.val, by omega⟩))
        * (if r.val / 4 = b.val ∧ r.val % 2 = z.val then 1 else 0)) + b1 (ix1 b)) 0
      = layer1 x W1 b1 v n z b := by
  rw [sum_pattern, layer1, Fin.sum_univ_two_halves 128 128 rfl]
  congr 3 <;>
  · refine Finset.sum_congr rfl fun l _ => ?_
    rw [mul_comm]
    refine congrArg₂ (· * ·) (congrArg W1 (congrArg₂ ix2 (Fin.ext ?_) (Fin.ext ?_)))
      (congrArg x (congrArg₂ (ix4 v n) (Fin.ext ?_) (Fin.ext ?_))) <;>
    · simp only
      omega

/-- The blocks of the operands at the point of sample `v`, in terms of the network's arguments. -/
structure Blocks (x : Arr 4 ![8, 128, 20480, 2]) (W1 : Arr 2 ![80, 256]) (b1 : Arr 1 ![80]) (W2 : Arr 2 ![10, 8])
    (b2 : Arr 1 ![10]) (v : Fin 8) (xp : Arr 4 ![1, 128, 320, 128]) (w : Arr 2 ![320, 128]) (g0 g1 : Arr 2 ![320, 80])
    (b1r : Arr 2 ![1, 80]) (w2 : Arr 2 ![80, 10]) (b2r : Arr 2 ![1, 10]) : Prop where
  points : ∀ (n : Fin 128) (r : Fin 320) (l : Fin 128),
    xp (ix4 0 n r l) = x (ix4 v n ⟨r.val / 2 * 128 + l.val, by omega⟩ ⟨r.val % 2, by omega⟩)
  weights : ∀ (r : Fin 320) (l : Fin 128),
    w (ix2 r l) = W1 (ix2 ⟨r.val / 4, by omega⟩ ⟨r.val % 4 / 2 * 128 + l.val, by omega⟩)
  first : ∀ (r : Fin 320) (b : Fin 80), g0 (ix2 r b) = if r.val / 4 = b.val ∧ r.val % 2 = 0 then 1 else 0
  second : ∀ (r : Fin 320) (b : Fin 80), g1 (ix2 r b) = if r.val / 4 = b.val ∧ r.val % 2 = 1 then 1 else 0
  bias : ∀ b : Fin 80, b1r (ix2 0 b) = b1 (ix1 b)
  channels : ∀ (b : Fin 80) (k : Fin 10),
    w2 (ix2 b k) = if b.val / 8 = k.val then W2 (ix2 ⟨b.val / 8, by omega⟩ ⟨b.val % 8, by omega⟩) else 0
  bias2 : ∀ k : Fin 10, b2r (ix2 0 k) = b2 (ix1 k)

section

variable {x : Arr 4 ![8, 128, 20480, 2]} {W1 : Arr 2 ![80, 256]} {b1 : Arr 1 ![80]} {W2 : Arr 2 ![10, 8]}
  {b2 : Arr 1 ![10]} {v : Fin 8} {xp : Arr 4 ![1, 128, 320, 128]} {w : Arr 2 ![320, 128]} {g0 g1 : Arr 2 ![320, 80]}
  {b1r : Arr 2 ![1, 80]} {w2 : Arr 2 ![80, 10]} {b2r : Arr 2 ![1, 10]}

/-- The features the kernel forms from such blocks. -/
theorem feat_eq (h : Blocks x W1 b1 W2 b2 v xp w g0 g1 b1r w2 b2r) (n : Fin 128) (k : Fin 10) :
    max (k0_pay5 (F := Ideal) xp w g0 g1 b1r w2 (ix2 n k) + b2r (ix2 0 k)) 0 = feat x W1 b1 W2 b2 v n k := by
  rw [pay5_apply]
  simp only [h.points, h.weights, h.first, h.second, h.bias, h.channels, h.bias2]
  refine congrArg (max · 0) (congrArg (· + b2 (ix1 k)) ?_)
  refine (Finset.sum_congr rfl fun b _ => congrArg (· * _)
    (congrArg₂ pool (layer1_eq x W1 b1 v n 0 b) (layer1_eq x W1 b1 v n 1 b))).trans ?_
  exact sum_channel (pooled x W1 b1 v n) W2 k

/-- The actor's block from such blocks. -/
theorem actor_eq (h : Blocks x W1 b1 W2 b2 v xp w g0 g1 b1r w2 b2r) {Wa : Arr 1 ![10]} {ba : Arr 1 ![1]}
    {war : Arr 2 ![1, 10]} (hw : ∀ k : Fin 10, war (ix2 0 k) = Wa (ix1 k)) (n : Fin 128) :
    k0_pay2 (F := Ideal) (k0_pay5 (F := Ideal) xp w g0 g1 b1r w2) b2r war (ba (ix1 0)) (ix3 0 n 0)
      = actor x W1 b1 W2 b2 Wa ba v n := by
  rw [pay2_apply]
  simp only [feat_eq h, hw]
  rfl

/-- The critic's block from such blocks, the sum starting from zero. -/
theorem critic_eq (h : Blocks x W1 b1 W2 b2 v xp w g0 g1 b1r w2 b2r) {Wc : Arr 1 ![10]} {bc : Arr 1 ![1]}
    {wcr : Arr 2 ![1, 10]} (hw : ∀ k : Fin 10, wcr (ix2 0 k) = Ideal.div (Wc (ix1 k)) (Ideal.ofBits .f32 0x43000000#32))
    (l : Fin 128) :
    k0_pay4 (F := Ideal) (k0_pay3 (F := Ideal) (k0_pay5 (F := Ideal) xp w g0 g1 b1r w2) b2r wcr (Ideal.ofBits .f32 0#32)) (bc (ix1 0)) (ix3 0 0 l)
      = critic x W1 b1 W2 b2 Wc bc v := by
  rw [pay4_apply, pay3_apply, Ideal.ofBits_zero_f32, zero_add]
  simp only [feat_eq h, hw, ofBits_128]
  rfl

end

end Cert.BlockNet

end
-- ==== Proof.Array.lean ====
module

public import proofs.«01_k».proof.Proof.Block
public import proofs.«01_k».proof.Proof.Reads
public import proofs.«01_k».proof.Proof.Equation
public import proofs.«01_k».proof.Proof.Gen.KernelIdeal.Frame
public import Idealize.ShloMosaic.Lib.Pipeline.ValueKit
public import Idealize.ShloMosaic.Lib.Pipeline.ReadBack

/-!
# What the kernel's two arrays hold
-/

set_option maxRecDepth 16384

@[expose] public section

noncomputable section

open Idealize.ShloMosaic Idealize.ShloMosaic.TcCoe Idealize.ShloMosaic.Tactic
open Cert.KernelIdeal Cert.KernelIdeal.Gen

namespace Cert.BlockNet

variable (m : (ℓ : Loc nD τ sig) → Buf (Elt Ideal) ℓ)

/-- Loading the only word of a one-word block. -/
theorem ld_word (X : Vec Ideal S1 .f32) (h : 0 < (Rect.unit (s := S1) ![0] ![1] inb_S1_S1_0).shape.numel) :
    View.ld X (Rect.unit ![0] ![1] inb_S1_S1_0) (Shape.Idx.first h) = X (ix1 0) := by
  have e : ∀ i j : S1.Idx, i = j := fun i j => funext fun a => Fin.ext (by
    have hi := (i a).isLt
    have hj := (j a).isLt
    have hs : S1.size a = 1 := by fin_cases a; rfl
    omega)
  exact congrArg X (e _ _)

/-- The actor's block at a point. -/
theorem block_actor (c : Dev nD) (t : Fin cfg0.N) :
    (outsAt0 m c t).1 = k0_pay2 (F := Ideal) (k0_pay5 (iblk m c 0 t) (iblk m c 1 t) (iblk m c 2 t) (iblk m c 3 t) (iblk m c 4 t) (iblk m c 5 t))
      (iblk m c 6 t) (iblk m c 7 t) (iblk m c 9 t (ix1 0)) := by
  unfold outsAt0
  dsimp only
  unfold out0_A_11
  frame_out
  rw [ld_word]

/-- The critic's block at a point. -/
theorem block_critic (c : Dev nD) (t : Fin cfg0.N) :
    (outsAt0 m c t).2 = k0_pay4 (F := Ideal) (k0_pay3 (k0_pay5 (iblk m c 0 t) (iblk m c 1 t) (iblk m c 2 t) (iblk m c 3 t) (iblk m c 4 t) (iblk m c 5 t))
      (iblk m c 6 t) (iblk m c 8 t) (Ideal.ofBits .f32 0#32)) (iblk m c 10 t (ix1 0)) := by
  unfold outsAt0
  dsimp only
  unfold out0_A_12
  frame_out
  rw [ld_word]
  rfl

/-- The operands' blocks at a point are those of the sample with the point's number. -/
theorem blocks (c : Dev nD) (t : Fin cfg0.N) :
    Blocks (m ((c : Thread nD τ).loc main_arg0)) (m ((c : Thread nD τ).loc main_arg1)) (m ((c : Thread nD τ).loc main_arg2))
      (m ((c : Thread nD τ).loc main_arg3)) (m ((c : Thread nD τ).loc main_arg4)) ⟨t.val, point_lt t⟩
      (iblk m c 0 t) (iblk m c 1 t) (iblk m c 2 t) (iblk m c 3 t) (iblk m c 4 t) (iblk m c 5 t) (iblk m c 6 t) where
  points := read_x m c t
  weights := read_w m c t
  first := read_g0 m c t
  second := read_g1 m c t
  bias := read_b1 m c t
  channels := read_w2 m c t
  bias2 := read_b2 m c t

/-- The actor's array. -/
theorem array_actor (c : Dev nD) :
    (dats m 0 c).arrAt 11 (cfgs 0).N = fun i : S8x128x1.Idx =>
      actor (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (i 0) (i 1) := by
  refine (dats m 0 c).arrAt_eq_of_covers 11 _ (by decide +kernel) fun t hf y => ?_
  blk_simp
  rw [after0_11, block_actor]
  have e0 : (win0_11.blk t).view.emb y 0 = ⟨t.val, point_lt t⟩ := Fin.ext (by blk_simp [idx_actor t])
  have e1 : ((win0_11.blk t).view.emb y 1 : Fin 128) = y 1 := Fin.ext (by blk_simp [idx_actor t])
  rw [e0, e1, read_ba]
  have ey : y = ix3 (n0 := 1) (n1 := 128) (n2 := 1) 0 (y 1) 0 := (eq_ix3 (y : S1x128x1.Idx)).trans
    (congrArg₂ (fun (a b : Fin 1) => ix3 a (y 1 : Fin 128) b) (Subsingleton.elim _ _) (Subsingleton.elim _ _))
  rw [ey]
  exact actor_eq (blocks m c t) (read_wa m c t) (y 1)

/-- The critic's array. -/
theorem array_critic (c : Dev nD) :
    (dats m 0 c).arrAt 12 (cfgs 0).N = fun i : S8x1x128.Idx =>
      critic (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg7))
        (m ((c : Thread nD τ).loc main_arg8)) (i 0) := by
  refine (dats m 0 c).arrAt_eq_of_covers 12 _ (by decide +kernel) fun t hf y => ?_
  blk_simp
  rw [after0_12, block_critic]
  have e0 : (win0_12.blk t).view.emb y 0 = ⟨t.val, point_lt t⟩ := Fin.ext (by blk_simp [idx_critic t])
  rw [e0, read_bc]
  have ey : y = ix3 (n0 := 1) (n1 := 1) (n2 := 128) 0 0 (y 2) := (eq_ix3 (y : S1x1x128.Idx)).trans
    (congrArg₂ (fun (a b : Fin 1) => ix3 a b (y 2 : Fin 128)) (Subsingleton.elim _ _) (Subsingleton.elim _ _))
  rw [ey]
  exact critic_eq (blocks m c t) (read_wc m c t) (y 2)

end Cert.BlockNet

end
-- ==== Proof.Run.lean ====
module

public import proofs.«01_k».proof.Proof.Array

/-!
# What the kernel's run leaves

The two results, read off the two arrays, and the arguments unchanged.
-/

set_option maxRecDepth 16384

@[expose] public section

noncomputable section

open Idealize.ShloMosaic Idealize.ShloMosaic.TcCoe Idealize.ShloMosaic.Tactic Idealize.SL.Sem
open Cert.KernelIdeal Cert.KernelIdeal.Gen

namespace Cert.BlockNet

variable (m : (ℓ : Loc nD τ sig) → Buf (Elt Ideal) ℓ)

/-- The first result: the actor's value of every sample and point. -/
def result0 (c : Dev nD) : Arr 2 ![8, 128] := fun i =>
  actor (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- The second result: the critic's value of every sample. -/
def result1 (c : Dev nD) : Arr 1 ![8] := fun i =>
  critic (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg7))
    (m ((c : Thread nD τ).loc main_arg8)) (i 0)

/-- Distinct windows stage distinct arrays. -/
theorem arrays_distinct : Function.Injective (Pipeline.arrRef spec0) := by decide +kernel

/-- After the region the first result is the actor's array without its last axis. -/
theorem tail_actor (c : Dev nD) :
    Pipeline.afterTail₀ cfgs (dats m) 0 (V0 m) [hostOps1] c main_v0_0 = result0 m c := by
  funext i
  obtain ⟨v, n, rfl⟩ : ∃ (v : Fin 8) (n : Fin 128), i = ix2 v n := ⟨i 0, i 1, eq_ix2 i⟩
  unfold Pipeline.afterTail₀
  simp only [List.flatten_cons, List.flatten_nil, List.append_nil]
  after_reads_at
  exact (congrFun (Pipeline.withArrays_arr spec0 arrays_distinct c (V0 m c) _ 11) (ix3 v n 0)).trans
    (congrFun (array_actor m c) (ix3 v n 0))

/-- After the region the second result is the first lane of the critic's array. -/
theorem tail_critic (c : Dev nD) :
    Pipeline.afterTail₀ cfgs (dats m) 0 (V0 m) [hostOps1] c main_v0_1 = result1 m c := by
  funext i
  obtain ⟨v, rfl⟩ : ∃ (v : Fin 8), i = ix1 v := ⟨i 0, eq_ix1 i⟩
  unfold Pipeline.afterTail₀
  simp only [List.flatten_cons, List.flatten_nil, List.append_nil]
  after_reads_at
  exact (congrFun (Pipeline.withArrays_arr spec0 arrays_distinct c (V0 m c) _ 12) (ix3 v 0 0)).trans
    (congrFun (array_critic m c) (ix3 v 0 0))

/-- The kernel's run: both results, and the arguments as they were. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (θ_run_and (run_main m ρ) (unchanged m ρ))
  exact ⟨((h.1 c).2 main_v0_0 (by decide)).trans (tail_actor m c), ((h.1 c).2 main_v0_1 (by decide)).trans (tail_critic m c), h.2 c⟩

end Cert.BlockNet

end
-- ==== Proof.lean ====
/- The claim put together: the three frames, and the kernel's two results against the reference's.

   * `Proof/Algebra.lean` — the laws of the extended reals the proof needs: softmax pooling of two values, the mean moved into the weights.
   * `Proof/Spec.lean` — the network's values at an index.
   * `Proof/Operands.lean` — what the kernel's operands hold.
   * `Proof/Reads.lean` — what each operand's block holds at a grid point.
   * `Proof/Block.lean` — what one block computes.
   * `Proof/Equation.lean` — one block's result is the network's value.
   * `Proof/Array.lean` — what the kernel's two arrays hold.
   * `Proof/Run.lean` — what the kernel's run leaves.
   * `Proof/Reference.lean` — what the reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Reference
public import proofs.«01_k».proof.Proof.Run
public import Idealize.ShloMosaic.Adequacy
public import Idealize.ShloMosaic.Init

@[expose] public section

noncomputable section

namespace Cert.Proof

open Idealize.ShloMosaic Idealize.SL.Sem Cert.Kernel

/-- The reference leaves its arguments as they were and every counter at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- On equal arguments the reference's first result is the kernel's. -/
theorem reference_result0 (x : Cert.BlockNet.Arr 4 ![8, 128, 20480, 2]) (W1 : Cert.BlockNet.Arr 2 ![80, 256])
    (b1 : Cert.BlockNet.Arr 1 ![80]) (W2 : Cert.BlockNet.Arr 2 ![10, 8]) (b2 Wa : Cert.BlockNet.Arr 1 ![10]) (ba : Cert.BlockNet.Arr 1 ![1]) :
    Cert.ReferenceIdeal.Read.val_main_v30 (F := Ideal) x W1 b1 W2 b2 Wa ba
      = fun i => Cert.BlockNet.actor x W1 b1 W2 b2 Wa ba (i 0) (i 1) := by
  funext i
  obtain ⟨v, n, rfl⟩ : ∃ (v : Fin 8) (n : Fin 128), i = ix2 v n := ⟨i 0, i 1, eq_ix2 i⟩
  exact Cert.BlockNet.Reference.actor_apply x W1 b1 W2 b2 Wa ba v n

/-- On equal arguments the reference's second result is the kernel's. -/
theorem reference_result1 (x : Cert.BlockNet.Arr 4 ![8, 128, 20480, 2]) (W1 : Cert.BlockNet.Arr 2 ![80, 256])
    (b1 : Cert.BlockNet.Arr 1 ![80]) (W2 : Cert.BlockNet.Arr 2 ![10, 8]) (b2 Wc : Cert.BlockNet.Arr 1 ![10]) (bc : Cert.BlockNet.Arr 1 ![1]) :
    Cert.ReferenceIdeal.Read.val_main_v37 (F := Ideal) x W1 b1 W2 b2 Wc bc
      = fun i => Cert.BlockNet.critic x W1 b1 W2 b2 Wc bc (i 0) := by
  funext i
  obtain ⟨v, rfl⟩ : ∃ v : Fin 8, i = ix1 v := ⟨i 0, eq_ix1 i⟩
  exact Cert.BlockNet.Reference.critic_apply x W1 b1 W2 b2 Wc bc v

/-- On equal arguments the kernel and the reference end with equal results. -/
theorem algebraic : Cert.algebraic_KernelIdeal_ReferenceIdeal := by
  intro m g m' g' _ hargs
  refine ⟨Cert.BlockNet.result0 m, Cert.BlockNet.result1 m, Cert.BlockNet.run_kernel m g,
    (θ_run Cert.ReferenceIdeal.defs _ _).mono (fun r h c => ?_) (Cert.ReferenceIdeal.Value.run m' g')⟩
  obtain ⟨h0, h1, hrest⟩ := h c
  obtain ⟨a0, a1, a2, a3, a4, a5, a6, a7, a8⟩ := hargs c
  refine ⟨?_, ?_, hrest⟩
  · rw [h0, Cert.ReferenceIdeal.Read.val_main_v30_eq, a0, a1, a2, a3, a4, a5, a6]
    exact reference_result0 _ _ _ _ _ _ _
  · rw [h1, Cert.ReferenceIdeal.Read.val_main_v37_eq, a0, a1, a2, a3, a4, a7, a8]
    exact reference_result1 _ _ _ _ _ _ _

/-- The claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
